-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S32x100x100 : Shape := ⟨3, ![32, 100, 100]⟩
abbrev S2x32 : Shape := ⟨2, ![2, 32]⟩
abbrev S35x64 : Shape := ⟨2, ![35, 64]⟩
abbrev S_ : Shape := ⟨0, ![]⟩

class Facts : Prop where
  bcast_S_S32x100x100 : S_.BroadcastsInDim S32x100x100 (![] : Fin 0 → Fin S32x100x100.rank)
  reducesTo_S32x100x100_S_d0_1_2 : S32x100x100.ReducesTo [0, 1, 2] S_
  h_S_ : 0 < S_.numel

variable [Facts]

def fn {F : FTy → Type} [FloatOps F] (main_arg0 : IVec S32x100x100 32) (main_arg1 : IVec S32x100x100 32) (main_arg2 : FVec F S2x32 .f32) (main_arg3 : FVec F S2x32 .f32) (main_arg4 : FVec F S35x64 .f32) : IVec S_ 1 :=
  let main_c : IVec S_ 32 := constantI S_ 32 0#32
  let main_v0 : IVec S32x100x100 32 := broadcastInDim S32x100x100 ![] bcast_S_S32x100x100 main_c
  let main_v1 : IVec S32x100x100 1 := cmpi .sge main_arg0 main_v0
  let main_c_0 : IVec S_ 1 := constantI S_ 1 1#1
  let main_v2 : IVec S_ 1 := (fun x v => Host.reduce IntOp.andi x v reducesTo_S32x100x100_S_d0_1_2 h_S_) main_v1 main_c_0
  let main_c_1 : IVec S_ 32 := constantI S_ 32 1#32
  let main_v3 : IVec S32x100x100 32 := broadcastInDim S32x100x100 ![] bcast_S_S32x100x100 main_c_1
  let main_v4 : IVec S32x100x100 1 := cmpi .sle main_arg0 main_v3
  let main_c_2 : IVec S_ 1 := constantI S_ 1 1#1
  let main_v5 : IVec S_ 1 := (fun x v => Host.reduce IntOp.andi x v reducesTo_S32x100x100_S_d0_1_2 h_S_) main_v4 main_c_2
  let main_v6 : IVec S_ 1 := andi main_v2 main_v5
  let main_c_3 : IVec S_ 32 := constantI S_ 32 0#32
  let main_v7 : IVec S32x100x100 32 := broadcastInDim S32x100x100 ![] bcast_S_S32x100x100 main_c_3
  let main_v8 : IVec S32x100x100 1 := cmpi .sge main_arg1 main_v7
  let main_c_4 : IVec S_ 1 := constantI S_ 1 1#1
  let main_v9 : IVec S_ 1 := (fun x v => Host.reduce IntOp.andi x v reducesTo_S32x100x100_S_d0_1_2 h_S_) main_v8 main_c_4
  let main_v10 : IVec S_ 1 := andi main_v6 main_v9
  let main_c_5 : IVec S_ 32 := constantI S_ 32 1#32
  let main_v11 : IVec S32x100x100 32 := broadcastInDim S32x100x100 ![] bcast_S_S32x100x100 main_c_5
  let main_v12 : IVec S32x100x100 1 := cmpi .sle main_arg1 main_v11
  let main_c_6 : IVec S_ 1 := constantI S_ 1 1#1
  let main_v13 : IVec S_ 1 := (fun x v => Host.reduce IntOp.andi x v reducesTo_S32x100x100_S_d0_1_2 h_S_) main_v12 main_c_6
  let main_v14 : IVec S_ 1 := andi main_v10 main_v13
  main_v14
-- ==== Kernel.lean ====
abbrev S32x100x100 : Shape := ⟨3, ![32, 100, 100]⟩
abbrev S2x32 : Shape := ⟨2, ![2, 32]⟩
abbrev S35x64 : Shape := ⟨2, ![35, 64]⟩
abbrev S_ : Shape := ⟨0, ![]⟩
abbrev S40x128 : Shape := ⟨2, ![40, 128]⟩
abbrev S1 : Shape := ⟨1, ![1]⟩
abbrev S2 : Shape := ⟨1, ![2]⟩
abbrev S32x5x1x2000 : Shape := ⟨4, ![32, 5, 1, 2000]⟩
abbrev S32x10000x128 : Shape := ⟨3, ![32, 10000, 128]⟩
abbrev S1x1x1x2000 : Shape := ⟨4, ![1, 1, 1, 2000]⟩
abbrev S1x2000x128 : Shape := ⟨3, ![1, 2000, 128]⟩
abbrev S1x2000 : Shape := ⟨2, ![1, 2000]⟩
abbrev S40x2000 : Shape := ⟨2, ![40, 2000]⟩
abbrev S2000x128 : Shape := ⟨2, ![2000, 128]⟩
abbrev S32x100x100x128 : Shape := ⟨4, ![32, 100, 100, 128]⟩

abbrev nBuf : Space → Nat
  | .hbm => 29
  | .vmem => 7
  | .smem => 0
  | _ => 0

abbrev bufTy : (tb : Table) → Fin (tcTables nBuf tb) → BufTy
  | .hbm, ⟨0, _⟩ => ⟨S32x100x100, .i32⟩
  | .hbm, ⟨1, _⟩ => ⟨S32x100x100, .i32⟩
  | .hbm, ⟨2, _⟩ => ⟨S2x32, .f32⟩
  | .hbm, ⟨3, _⟩ => ⟨S2x32, .f32⟩
  | .hbm, ⟨4, _⟩ => ⟨S35x64, .f32⟩
  | .hbm, ⟨5, _⟩ => ⟨S_, .f32⟩
  | .hbm, ⟨6, _⟩ => ⟨S40x128, .f32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2, .i32⟩
  | .hbm, ⟨12, _⟩ => ⟨S40x128, .f32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S2, .i32⟩
  | .hbm, ⟨18, _⟩ => ⟨S40x128, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S40x128, .f32⟩
  | .hbm, ⟨25, _⟩ => ⟨S32x5x1x2000, .i32⟩
  | .hbm, ⟨26, _⟩ => ⟨S32x5x1x2000, .i32⟩
  | .hbm, ⟨27, _⟩ => ⟨S32x10000x128, .f32⟩
  | .hbm, ⟨28, _⟩ => ⟨S32x100x100x128, .f32⟩
  | .local _ .vmem, ⟨0, _⟩ => ⟨S1x1x1x2000, .i32⟩
  | .local _ .vmem, ⟨1, _⟩ => ⟨S1x1x1x2000, .i32⟩
  | .local _ .vmem, ⟨2, _⟩ => ⟨S1x1x1x2000, .i32⟩
  | .local _ .vmem, ⟨3, _⟩ => ⟨S1x1x1x2000, .i32⟩
  | .local _ .vmem, ⟨4, _⟩ => ⟨S40x128, .f32⟩
  | .local _ .vmem, ⟨5, _⟩ => ⟨S1x2000x128, .f32⟩
  | .local _ .vmem, ⟨6, _⟩ => ⟨S1x2000x128, .f32⟩
  | _, _ => ⟨S32x100x100, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_c_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_3 : Ref sig .tc := ⟨.hbm, 19, rfl⟩
abbrev main_v9 : Ref sig .tc := ⟨.hbm, 20, rfl⟩
abbrev main_c_4 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 5], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x1x2000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x2000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S40x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S32x100x100 : Shape := ⟨3, ![32, 100, 100]⟩
abbrev S2x32 : Shape := ⟨2, ![2, 32]⟩
abbrev S35x64 : Shape := ⟨2, ![35, 64]⟩
abbrev S_ : Shape := ⟨0, ![]⟩
abbrev S32x100x100x1 : Shape := ⟨4, ![32, 100, 100, 1]⟩
abbrev S1 : Shape := ⟨1, ![1]⟩
abbrev S1x1x1x1 : Shape := ⟨4, ![1, 1, 1, 1]⟩
abbrev S32x100x100x32 : Shape := ⟨4, ![32, 100, 100, 32]⟩
abbrev S200 : Shape := ⟨1, ![200]⟩
abbrev S1x200 : Shape := ⟨2, ![1, 200]⟩
abbrev S200x1 : Shape := ⟨2, ![200, 1]⟩
abbrev S200x200 : Shape := ⟨2, ![200, 200]⟩
abbrev S100x100 : Shape := ⟨2, ![100, 100]⟩
abbrev S100x100x1 : Shape := ⟨3, ![100, 100, 1]⟩
abbrev S1x1x1 : Shape := ⟨3, ![1, 1, 1]⟩
abbrev S100x100x64 : Shape := ⟨3, ![100, 100, 64]⟩
abbrev S1x100x100x64 : Shape := ⟨4, ![1, 100, 100, 64]⟩
abbrev S32x100x100x64 : Shape := ⟨4, ![32, 100, 100, 64]⟩
abbrev S32x100x100x128 : Shape := ⟨4, ![32, 100, 100, 128]⟩

abbrev nBuf : Space → Nat
  | .hbm => 104
  | .vmem => 0
  | .smem => 0
  | _ => 0

abbrev bufTy : (tb : Table) → Fin (tcTables nBuf tb) → BufTy
  | .hbm, ⟨0, _⟩ => ⟨S32x100x100, .i32⟩
  | .hbm, ⟨1, _⟩ => ⟨S32x100x100, .i32⟩
  | .hbm, ⟨2, _⟩ => ⟨S2x32, .f32⟩
  | .hbm, ⟨3, _⟩ => ⟨S2x32, .f32⟩
  | .hbm, ⟨4, _⟩ => ⟨S35x64, .f32⟩
  | .hbm, ⟨5, _⟩ => ⟨S_, .i32⟩
  | .hbm, ⟨6, _⟩ => ⟨S32x100x100, .i32⟩
  | .hbm, ⟨7, _⟩ => ⟨S32x100x100, .i1⟩
  | .hbm, ⟨8, _⟩ => ⟨S_, .i32⟩
  | .hbm, ⟨9, _⟩ => ⟨S32x100x100, .i32⟩
  | .hbm, ⟨10, _⟩ => ⟨S32x100x100, .i32⟩
  | .hbm, ⟨11, _⟩ => ⟨S32x100x100, .i32⟩
  | .hbm, ⟨12, _⟩ => ⟨S32x100x100x1, .i32⟩
  | .hbm, ⟨13, _⟩ => ⟨S1, .i32⟩
  | .hbm, ⟨14, _⟩ => ⟨S_, .i32⟩
  | .hbm, ⟨15, _⟩ => ⟨S32x100x100x1, .i32⟩
  | .hbm, ⟨16, _⟩ => ⟨S32x100x100x1, .i1⟩
  | .hbm, ⟨17, _⟩ => ⟨S1x1x1x1, .i32⟩
  | .hbm, ⟨18, _⟩ => ⟨S32x100x100x1, .i32⟩
  | .hbm, ⟨19, _⟩ => ⟨S32x100x100x1, .i1⟩
  | .hbm, ⟨20, _⟩ => ⟨S32x100x100x1, .i1⟩
  | .hbm, ⟨21, _⟩ => ⟨S_, .i1⟩
  | .hbm, ⟨22, _⟩ => ⟨S32x100x100, .i1⟩
  | .hbm, ⟨23, _⟩ => ⟨S32x100x100x32, .f32⟩
  | .hbm, ⟨24, _⟩ => ⟨S32x100x100x32, .i1⟩
  | .hbm, ⟨25, _⟩ => ⟨S_, .f32⟩
  | .hbm, ⟨26, _⟩ => ⟨S32x100x100x32, .f32⟩
  | .hbm, ⟨27, _⟩ => ⟨S32x100x100x32, .f32⟩
  | .hbm, ⟨28, _⟩ => ⟨S_, .i32⟩
  | .hbm, ⟨29, _⟩ => ⟨S32x100x100, .i32⟩
  | .hbm, ⟨30, _⟩ => ⟨S32x100x100, .i1⟩
  | .hbm, ⟨31, _⟩ => ⟨S_, .i32⟩
  | .hbm, ⟨32, _⟩ => ⟨S32x100x100, .i32⟩
  | .hbm, ⟨33, _⟩ => ⟨S32x100x100, .i32⟩
  | .hbm, ⟨34, _⟩ => ⟨S32x100x100, .i32⟩
  | .hbm, ⟨35, _⟩ => ⟨S32x100x100x1, .i32⟩
  | .hbm, ⟨36, _⟩ => ⟨S1, .i32⟩
  | .hbm, ⟨37, _⟩ => ⟨S_, .i32⟩
  | .hbm, ⟨38, _⟩ => ⟨S32x100x100x1, .i32⟩
  | .hbm, ⟨39, _⟩ => ⟨S32x100x100x1, .i1⟩
  | .hbm, ⟨40, _⟩ => ⟨S1x1x1x1, .i32⟩
  | .hbm, ⟨41, _⟩ => ⟨S32x100x100x1, .i32⟩
  | .hbm, ⟨42, _⟩ => ⟨S32x100x100x1, .i1⟩
  | .hbm, ⟨43, _⟩ => ⟨S32x100x100x1, .i1⟩
  | .hbm, ⟨44, _⟩ => ⟨S_, .i1⟩
  | .hbm, ⟨45, _⟩ => ⟨S32x100x100, .i1⟩
  | .hbm, ⟨46, _⟩ => ⟨S32x100x100x32, .f32⟩
  | .hbm, ⟨47, _⟩ => ⟨S32x100x100x32, .i1⟩
  | .hbm, ⟨48, _⟩ => ⟨S_, .f32⟩
  | .hbm, ⟨49, _⟩ => ⟨S32x100x100x32, .f32⟩
  | .hbm, ⟨50, _⟩ => ⟨S32x100x100x32, .f32⟩
  | .hbm, ⟨51, _⟩ => ⟨S200, .i32⟩
  | .hbm, ⟨52, _⟩ => ⟨S1x200, .i32⟩
  | .hbm, ⟨53, _⟩ => ⟨S200x1, .i32⟩
  | .hbm, ⟨54, _⟩ => ⟨S200x200, .i32⟩
  | .hbm, ⟨55, _⟩ => ⟨S200x200, .i32⟩
  | .hbm, ⟨56, _⟩ => ⟨S200x200, .i32⟩
  | .hbm, ⟨57, _⟩ => ⟨S_, .i32⟩
  | .hbm, ⟨58, _⟩ => ⟨S200x200, .i32⟩
  | .hbm, ⟨59, _⟩ => ⟨S200x200, .i1⟩
  | .hbm, ⟨60, _⟩ => ⟨S_, .i32⟩
  | .hbm, ⟨61, _⟩ => ⟨S_, .i32⟩
  | .hbm, ⟨62, _⟩ => ⟨S200x200, .i32⟩
  | .hbm, ⟨63, _⟩ => ⟨S200x200, .i32⟩
  | .hbm, ⟨64, _⟩ => ⟨S_, .i32⟩
  | .hbm, ⟨65, _⟩ => ⟨S200x200, .i32⟩
  | .hbm, ⟨66, _⟩ => ⟨S200x200, .i1⟩
  | .hbm, ⟨67, _⟩ => ⟨S_, .i32⟩
  | .hbm, ⟨68, _⟩ => ⟨S_, .i32⟩
  | .hbm, ⟨69, _⟩ => ⟨S200x200, .i32⟩
  | .hbm, ⟨70, _⟩ => ⟨S200x200, .i32⟩
  | .hbm, ⟨71, _⟩ => ⟨S_, .i32⟩
  | .hbm, ⟨72, _⟩ => ⟨S200x200, .i32⟩
  | .hbm, ⟨73, _⟩ => ⟨S200x200, .i32⟩
  | .hbm, ⟨74, _⟩ => ⟨S_, .i32⟩
  | .hbm, ⟨75, _⟩ => ⟨S200x200, .i32⟩
  | .hbm, ⟨76, _⟩ => ⟨S200x200, .i32⟩
  | .hbm, ⟨77, _⟩ => ⟨S100x100, .i32⟩
  | .hbm, ⟨78, _⟩ => ⟨S_, .i32⟩
  | .hbm, ⟨79, _⟩ => ⟨S100x100, .i32⟩
  | .hbm, ⟨80, _⟩ => ⟨S100x100, .i1⟩
  | .hbm, ⟨81, _⟩ => ⟨S_, .i32⟩
  | .hbm, ⟨82, _⟩ => ⟨S100x100, .i32⟩
  | .hbm, ⟨83, _⟩ => ⟨S100x100, .i32⟩
  | .hbm, ⟨84, _⟩ => ⟨S100x100, .i32⟩
  | .hbm, ⟨85, _⟩ => ⟨S100x100x1, .i32⟩
  | .hbm, ⟨86, _⟩ => ⟨S1, .i32⟩
  | .hbm, ⟨87, _⟩ => ⟨S_, .i32⟩
  | .hbm, ⟨88, _⟩ => ⟨S100x100x1, .i32⟩
  | .hbm, ⟨89, _⟩ => ⟨S100x100x1, .i1⟩
  | .hbm, ⟨90, _⟩ => ⟨S1x1x1, .i32⟩
  | .hbm, ⟨91, _⟩ => ⟨S100x100x1, .i32⟩
  | .hbm, ⟨92, _⟩ => ⟨S100x100x1, .i1⟩
  | .hbm, ⟨93, _⟩ => ⟨S100x100x1, .i1⟩
  | .hbm, ⟨94, _⟩ => ⟨S_, .i1⟩
  | .hbm, ⟨95, _⟩ => ⟨S100x100, .i1⟩
  | .hbm, ⟨96, _⟩ => ⟨S100x100x64, .f32⟩
  | .hbm, ⟨97, _⟩ => ⟨S100x100x64, .i1⟩
  | .hbm, ⟨98, _⟩ => ⟨S_, .f32⟩
  | .hbm, ⟨99, _⟩ => ⟨S100x100x64, .f32⟩
  | .hbm, ⟨100, _⟩ => ⟨S100x100x64, .f32⟩
  | .hbm, ⟨101, _⟩ => ⟨S1x100x100x64, .f32⟩
  | .hbm, ⟨102, _⟩ => ⟨S32x100x100x64, .f32⟩
  | .hbm, ⟨103, _⟩ => ⟨S32x100x100x128, .f32⟩
  | _, _ => ⟨S32x100x100, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v1 : Ref sig .tc := ⟨.hbm, 50, rfl⟩
abbrev main_v2 : Ref sig .tc := ⟨.hbm, 51, rfl⟩
abbrev main_v3 : Ref sig .tc := ⟨.hbm, 52, rfl⟩
abbrev main_v4 : Ref sig .tc := ⟨.hbm, 53, rfl⟩
abbrev main_v5 : Ref sig .tc := ⟨.hbm, 54, rfl⟩
abbrev main_v6 : Ref sig .tc := ⟨.hbm, 55, rfl⟩
abbrev main_v7 : Ref sig .tc := ⟨.hbm, 56, rfl⟩
abbrev main_c : Ref sig .tc := ⟨.hbm, 57, rfl⟩
abbrev main_v8 : Ref sig .tc := ⟨.hbm, 58, rfl⟩
abbrev main_v9 : Ref sig .tc := ⟨.hbm, 59, rfl⟩
abbrev main_c_0 : Ref sig .tc := ⟨.hbm, 60, rfl⟩
abbrev main_call2_v0 : Ref sig .tc := ⟨.hbm, 61, rfl⟩
abbrev main_call2_v1 : Ref sig .tc := ⟨.hbm, 62, rfl⟩
abbrev main_v10 : Ref sig .tc := ⟨.hbm, 63, rfl⟩
abbrev main_c_1 : Ref sig .tc := ⟨.hbm, 64, rfl⟩
abbrev main_v11 : Ref sig .tc := ⟨.hbm, 65, rfl⟩
abbrev main_v12 : Ref sig .tc := ⟨.hbm, 66, rfl⟩
abbrev main_c_2 : Ref sig .tc := ⟨.hbm, 67, rfl⟩
abbrev main_call3_v0 : Ref sig .tc := ⟨.hbm, 68, rfl⟩
abbrev main_call3_v1 : Ref sig .tc := ⟨.hbm, 69, rfl⟩
abbrev main_v13 : Ref sig .tc := ⟨.hbm, 70, rfl⟩
abbrev main_c_3 : Ref sig .tc := ⟨.hbm, 71, rfl⟩
abbrev main_v14 : Ref sig .tc := ⟨.hbm, 72, rfl⟩
abbrev main_v15 : Ref sig .tc := ⟨.hbm, 73, rfl⟩
abbrev main_c_4 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_call4_c : Ref sig .tc := ⟨.hbm, 78, rfl⟩
abbrev main_call4_v0 : Ref sig .tc := ⟨.hbm, 79, rfl⟩
abbrev main_call4_v1 : Ref sig .tc := ⟨.hbm, 80, rfl⟩
abbrev main_call4_c_0 : Ref sig .tc := ⟨.hbm, 81, rfl⟩
abbrev main_call4_v2 : Ref sig .tc := ⟨.hbm, 82, rfl⟩
abbrev main_call4_v3 : Ref sig .tc := ⟨.hbm, 83, rfl⟩
abbrev main_call4_v4 : Ref sig .tc := ⟨.hbm, 84, rfl⟩
abbrev main_call4_v5 : Ref sig .tc := ⟨.hbm, 85, rfl⟩
abbrev main_call4_c_1 : Ref sig .tc := ⟨.hbm, 86, rfl⟩
abbrev main_call4_c_2 : Ref sig .tc := ⟨.hbm, 87, rfl⟩
abbrev main_call4_v6 : Ref sig .tc := ⟨.hbm, 88, rfl⟩
abbrev main_call4_v7 : Ref sig .tc := ⟨.hbm, 89, rfl⟩
abbrev main_call4_v8 : Ref sig .tc := ⟨.hbm, 90, rfl⟩
abbrev main_call4_v9 : Ref sig .tc := ⟨.hbm, 91, rfl⟩
abbrev main_call4_v10 : Ref sig .tc := ⟨.hbm, 92, rfl⟩
abbrev main_call4_v11 : Ref sig .tc := ⟨.hbm, 93, rfl⟩
abbrev main_call4_c_3 : Ref sig .tc := ⟨.hbm, 94, rfl⟩
abbrev main_call4_v12 : Ref sig .tc := ⟨.hbm, 95, rfl⟩
abbrev main_call4_v13 : Ref sig .tc := ⟨.hbm, 96, rfl⟩
abbrev main_call4_v14 : Ref sig .tc := ⟨.hbm, 97, rfl⟩
abbrev main_call4_cst : Ref sig .tc := ⟨.hbm, 98, rfl⟩
abbrev main_call4_v15 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_v22 : Ref sig .tc := ⟨.hbm, 103, rfl⟩

abbrev nD : Nat := 1
abbrev τ : Topo := Topo.v7x

variable {F : FTy → Type} [FloatOps F]
-- ==== Proof.Table.lean ====
/-
  The stacked table the kernel's host code builds: three blocks written into a table of zeros, each by one
  `Host.scatter` whose start is a constant pair (row, column).
-/
module

public import Idealize.ShloMosaic.Lib.Routing.OpsOne
public import Idealize.ShloMosaic.Lib.Routing.OpsPair
public import Idealize.ShloMosaic.Lib.Routing.OpsSet
public import Idealize.ShloMosaic.Lib.Pointwise

@[expose] public section

set_option maxRecDepth 16384

noncomputable section

open Idealize.ShloMosaic

namespace Cert.PathTable

variable {α : Type} {R C U V : Nat}

/-- A block written whole into a table lands each update coordinate on the table axis of the same number: its place
    inside the block is the update's own coordinate. -/
theorem window_whole (d : ScatterDims ⟨2, ![R, C]⟩ ⟨1, ![2]⟩ ⟨2, ![U, V]⟩)
    (hu : d.updateWindowDims = [0, 1]) (hi : d.insertedWindowDims = [])
    (k : (⟨2, ![U, V]⟩ : Shape).Idx) : d.window k 0 = (k 0).val ∧ d.window k 1 = (k 1).val := by
  obtain ⟨uw, iw, sd, iv, wf⟩ := d
  subst hu hi
  exact ⟨rfl, rfl⟩

/-- The start of the block on each table axis is the start pair's component for that axis, read as a signed word. -/
theorem start_whole (d : ScatterDims ⟨2, ![R, C]⟩ ⟨1, ![2]⟩ ⟨2, ![U, V]⟩)
    (hs : d.scatterDimsToOperandDims = [0, 1]) (hv : d.indexVectorDim = 0) (idx : IVec ⟨1, ![2]⟩ 32)
    (k : (⟨2, ![U, V]⟩ : Shape).Idx) :
    d.start k idx 0 = (idx (ix1 0)).toInt ∧ d.start k idx 1 = (idx (ix1 1)).toInt := by
  rw [ix1_eq_valueIdx, ix1_eq_valueIdx]
  exact ⟨Routing.start_pair d hs hv idx k 0, Routing.start_pair d hs hv idx k 1⟩

/-- The table after one block is written: inside the box of the block's size at the start `(r0, c0)` it holds the block's
    element at the offset from the start, outside the box it is the table before. -/
theorem scatter_block (d : ScatterDims ⟨2, ![R, C]⟩ ⟨1, ![2]⟩ ⟨2, ![U, V]⟩)
    (hu : d.updateWindowDims = [0, 1]) (hi : d.insertedWindowDims = [])
    (hs : d.scatterDimsToOperandDims = [0, 1]) (hv : d.indexVectorDim = 0)
    (x : (⟨2, ![R, C]⟩ : Shape).Idx → α) (idx : IVec ⟨1, ![2]⟩ 32) (upd : (⟨2, ![U, V]⟩ : Shape).Idx → α)
    (r0 c0 : Nat) (h0 : (idx (ix1 0)).toInt = r0) (h1 : (idx (ix1 1)).toInt = c0) (r : Fin R) (c : Fin C) :
    Host.scatter d (fun _ b => b) x idx upd (ix2 r c)
      = if h : (r0 ≤ r.val ∧ r.val < r0 + U) ∧ (c0 ≤ c.val ∧ c.val < c0 + V) then
          upd (ix2 ⟨r.val - r0, by omega⟩ ⟨c.val - c0, by omega⟩)
        else x (ix2 r c) := by
  have lands : ∀ k : (⟨2, ![U, V]⟩ : Shape).Idx, d.resultIdx? k idx = some (ix2 r c)
      ↔ r0 + (k 0).val = r.val ∧ c0 + (k 1).val = c.val := by
    intro k
    rw [ix2_eq_valueIdx, Routing.resultIdx?_ix2, (window_whole d hu hi k).1, (window_whole d hu hi k).2,
      (start_whole d hs hv idx k).1, (start_whole d hs hv idx k).2, h0, h1]
    omega
  split
  · next h =>
    refine Routing.scatter_set_hit d x idx upd (ix2 r c) _ (fun k hk => ?_)
      (ix2 ⟨r.val - r0, by omega⟩ ⟨c.val - c0, by omega⟩) ((lands _).2 ⟨?_, ?_⟩)
    · obtain ⟨e0, e1⟩ := (lands k).1 hk
      have f0 : k 0 = (⟨r.val - r0, by omega⟩ : Fin U) := Fin.ext (by show (k 0).val = r.val - r0; omega)
      have f1 : k 1 = (⟨c.val - c0, by omega⟩ : Fin V) := Fin.ext (by show (k 1).val = c.val - c0; omega)
      rw [eq_ix2 k, f0, f1]
    · show r0 + (r.val - r0) = r.val
      omega
    · show c0 + (c.val - c0) = c.val
      omega
  · next h =>
    refine Routing.scatter_set_miss d x idx upd (ix2 r c) fun k hk => h ?_
    obtain ⟨e0, e1⟩ := (lands k).1 hk
    have b0 : (k 0).val < U := (k 0).isLt
    have b1 : (k 1).val < V := (k 1).isLt
    omega

end Cert.PathTable

end
-- ==== Proof.Entry.lean ====
/-
  What the kernel's host code leaves in the arrays the pipeline reads: the two reshaped id arrays and the stacked table,
  read at an index.
-/
module

public import proofs.«01_k».proof.Proof.Gen.KernelIdeal.Frame
public import proofs.«01_k».proof.Proof.Table
public import Idealize.ShloMosaic.Lib.Claim
public import Idealize.ShloMosaic.Lib.Pointwise
public import Idealize.ShloMosaic.Lib.Pipeline.Value

@[expose] public section

set_option maxRecDepth 16384

noncomputable section

open Idealize.ShloMosaic Idealize.ShloMosaic.TcCoe Idealize.SL.Sem

namespace Cert.KernelIdeal.PathEntry

open Cert.KernelIdeal Cert.KernelIdeal.Gen

variable (m : (ℓ : Loc nD τ sig) → Buf (Elt Ideal) ℓ)

/-- The kernel's first window reads the speaker ids, reshaped to blocks of 2000. -/
theorem V_v13 (c : Dev nD) :
    V m c main_v13
      = shapeCast S32x5x1x2000 (m ((c.tc : Thread nD τ).loc main_arg0)) shapeCasts_S32x100x100_S32x5x1x2000 := rfl

/-- The kernel's second window reads the turn ids, reshaped to blocks of 2000. -/
theorem V_v14 (c : Dev nD) :
    V m c main_v14
      = shapeCast S32x5x1x2000 (m ((c.tc : Thread nD τ).loc main_arg1)) shapeCasts_S32x100x100_S32x5x1x2000 := rfl

/-- The pair of start words `(a, b)` as the host code builds it: two one-word arrays joined. -/
abbrev startPair (a b : BitVec 32) : IVec S2 32 :=
  concatenate S2 0 [⟨S1, broadcastInDim S1 ![] bcast_S_S1 (constantI S_ 32 a)⟩,
    ⟨S1, broadcastInDim S1 ![] bcast_S_S1 (constantI S_ 32 b)⟩] concatenates_S1_S1_S2_d0

/-- The two entries of a start pair. -/
theorem startPair_at (a b : BitVec 32) : startPair a b (ix1 0) = a ∧ startPair a b (ix1 1) = b := by
  constructor <;> pointwise

/-- The host code's table: zeros, then the three tables written as blocks. -/
def written (sp tn : FVec Ideal S2x32 .f32) (ps : FVec Ideal S35x64 .f32) : FVec Ideal S40x128 .f32 :=
  Host.scatter scatter_S40x128_S2_S35x64_01_n_01_0 (fun _ b => b)
    (Host.scatter scatter_S40x128_S2_S2x32_01_n_01_0 (fun _ b => b)
      (Host.scatter scatter_S40x128_S2_S2x32_01_n_01_0 (fun _ b => b)
        (broadcastInDim S40x128 ![] bcast_S_S40x128 (constant (F := Ideal) S_ .f32 0x00000000#32))
        (startPair 0#32 0#32) sp)
      (startPair 2#32 32#32) tn)
    (startPair 4#32 64#32) ps

/-- The table the kernel reads is the one the host code writes from the three table arguments. -/
theorem V_v12 (c : Dev nD) :
    V m c main_v12 = written (m ((c.tc : Thread nD τ).loc main_arg2)) (m ((c.tc : Thread nD τ).loc main_arg3))
      (m ((c.tc : Thread nD τ).loc main_arg4)) := by
  show StableHlo.after hostOps0 _ _ = _
  after_results
  rfl

/-- The stacked table of the three tables at row `k`, lane `h`: the speaker table in rows 0 to 1 of lanes 0 to 31, the
    turn table in rows 2 to 3 of lanes 32 to 63, the position table in rows 4 to 38 of lanes 64 to 127, zero elsewhere. -/
def stacked (sp tn : FVec Ideal S2x32 .f32) (ps : FVec Ideal S35x64 .f32) (k : Fin 40) (h : Fin 128) : EReal :=
  if hp : (4 ≤ k.val ∧ k.val < 4 + 35) ∧ (64 ≤ h.val ∧ h.val < 64 + 64) then
    ps (ix2 ⟨k.val - 4, by omega⟩ ⟨h.val - 64, by omega⟩)
  else if ht : (2 ≤ k.val ∧ k.val < 2 + 2) ∧ (32 ≤ h.val ∧ h.val < 32 + 32) then
    tn (ix2 ⟨k.val - 2, by omega⟩ ⟨h.val - 32, by omega⟩)
  else if hs : (0 ≤ k.val ∧ k.val < 0 + 2) ∧ (0 ≤ h.val ∧ h.val < 0 + 32) then
    sp (ix2 ⟨k.val - 0, by omega⟩ ⟨h.val - 0, by omega⟩)
  else 0

/-- The written table, read at row `k`, lane `h`, is the stacked table. -/
theorem written_apply (sp tn : FVec Ideal S2x32 .f32) (ps : FVec Ideal S35x64 .f32) (k : Fin 40) (h : Fin 128) :
    written sp tn ps (ix2 k h) = stacked sp tn ps k h := by
  unfold written
  rw [PathTable.scatter_block scatter_S40x128_S2_S35x64_01_n_01_0 rfl rfl rfl rfl _ (startPair 4#32 64#32)
    ps 4 64 (by rw [(startPair_at _ _).1]; decide) (by rw [(startPair_at _ _).2]; decide) k h]
  rw [PathTable.scatter_block scatter_S40x128_S2_S2x32_01_n_01_0 rfl rfl rfl rfl _ (startPair 2#32 32#32)
    tn 2 32 (by rw [(startPair_at _ _).1]; decide) (by rw [(startPair_at _ _).2]; decide) k h]
  rw [PathTable.scatter_block scatter_S40x128_S2_S2x32_01_n_01_0 rfl rfl rfl rfl _ (startPair 0#32 0#32)
    sp 0 0 (by rw [(startPair_at _ _).1]; decide) (by rw [(startPair_at _ _).2]; decide) k h]
  have hz : broadcastInDim S40x128 ![] bcast_S_S40x128 (constant (F := Ideal) S_ .f32 0x00000000#32) (ix2 k h)
      = (0 : EReal) := by
    pointwise
  rw [hz]
  rfl

end Cert.KernelIdeal.PathEntry

end
-- ==== Proof.Words.lean ====
/-
  The integer words of the path embedding: the clipped relative position, as the kernel's block and the reference's pool
  compute it, and the value both programs give at an index.
-/
module

public import Idealize.ShloMosaic.Lib.Pointwise
public import Idealize.ShloMosaic.Lib.Routing.Words

@[expose] public section

set_option maxRecDepth 16384

noncomputable section

open Idealize.ShloMosaic

namespace Cert.PathWords

/-- The relative-position row of nodes `i` and `j`: `j - i` clipped to `[-17, 17]`, moved up by 17, as a number below 35. -/
def relRow (i j : Nat) : Nat := min (j + 17 - i) 34

/-- The relative position's row is inside the position table. -/
theorem relRow_lt (i j : Nat) : relRow i j < 35 := by unfold relRow; omega

/-- The kernel's floor division of a small non-negative word by 100: the printed correction of a truncating division
    never fires, so the quotient word is the number's quotient. -/
theorem floorDiv_word (u : ArithUnit) (a : Nat) (ha : a < 10000) :
    Scalar.select
        (IntOp.andi
          (IntOp.cmpi .ne
            (IntOp.subi (BitVec.setWidth 32 (IntOp.cmpi .sgt (BitVec.ofNat 32 a) 0#32))
              (BitVec.setWidth 32 (IntOp.cmpi .slt (BitVec.ofNat 32 a) 0#32)))
            (Scalar.subi (Scalar.extui (Scalar.cmpi .sgt 100#32 0#32)) (Scalar.extui (Scalar.cmpi .slt 100#32 0#32))))
          (IntOp.cmpi .ne (IntOp.remsi u (BitVec.ofNat 32 a) 100#32) 0#32))
        (IntOp.subi (IntOp.divsi u (BitVec.ofNat 32 a) 100#32) 1#32)
        (IntOp.divsi u (BitVec.ofNat 32 a) 100#32)
      = BitVec.ofNat 32 (a / 100) := by
  rw [show (100#32 : BitVec 32) = BitVec.ofNat 32 100 from rfl,
    Routing.divsi_word u (by omega) (by decide) (by decide), Routing.remsi_word u (by omega) (by decide) (by decide)]
  rcases Nat.eq_zero_or_pos a with h | h
  · subst h
    decide +kernel
  · have hs : IntOp.cmpi .sgt (BitVec.ofNat 32 a) 0#32 = 1#1 := by
      word_cmp
    have hl : IntOp.cmpi .slt (BitVec.ofNat 32 a) 0#32 = 0#1 := by
      word_cmp
    rw [hs, hl]
    have hn : IntOp.cmpi .ne (IntOp.subi (BitVec.setWidth 32 1#1) (BitVec.setWidth 32 0#1))
        (Scalar.subi (Scalar.extui (Scalar.cmpi .sgt (BitVec.ofNat 32 100) 0#32))
          (Scalar.extui (Scalar.cmpi .slt (BitVec.ofNat 32 100) 0#32))) = 0#1 := by decide +kernel
    rw [hn]
    have ha0 : ∀ y : BitVec 1, IntOp.andi 0#1 y = 0#1 := by decide
    rw [ha0]
    rfl

/-- The kernel's clip of `j - i` to `[-17, 17]`, moved up by 17, is the relative-position row's word. -/
theorem clip_word : ∀ i j : Fin 100,
    IntOp.addi (IntOp.minsi 17#32 (IntOp.maxsi 4294967279#32
      (IntOp.subi (BitVec.ofNat 32 j.val) (BitVec.ofNat 32 i.val)))) 17#32 = BitVec.ofNat 32 (relRow i.val j.val) := by
  decide +kernel

/-- The reference's pool entry of two nodes: the two replacements of a distance beyond 16 on either side, moved up by
    16 and by 1, is the relative-position row's word. -/
theorem pool_word : ∀ i j : Fin 100,
    IntOp.addi (IntOp.addi
      (Scalar.select (IntOp.cmpi .slt
          (Scalar.select (IntOp.cmpi .sgt (IntOp.subi (BitVec.ofNat 32 j.val) (BitVec.ofNat 32 i.val)) 16#32) 17#32
            (IntOp.subi (BitVec.ofNat 32 j.val) (BitVec.ofNat 32 i.val))) 4294967280#32) 4294967279#32
        (Scalar.select (IntOp.cmpi .sgt (IntOp.subi (BitVec.ofNat 32 j.val) (BitVec.ofNat 32 i.val)) 16#32) 17#32
          (IntOp.subi (BitVec.ofNat 32 j.val) (BitVec.ofNat 32 i.val)))) 16#32) 1#32
      = BitVec.ofNat 32 (relRow i.val j.val) := by
  decide +kernel

/-- The path embedding at lane `h` of a pair of nodes `(i, j)` with speaker id `s` and turn id `t`: lanes 0 to 31 are row
    `s` of the speaker table, lanes 32 to 63 row `t` of the turn table, lanes 64 to 127 the relative-position row. -/
def pathAt (sp tn : FVec Ideal ⟨2, ![2, 32]⟩ .f32) (ps : FVec Ideal ⟨2, ![35, 64]⟩ .f32) (s t : Fin 2) (i j : Nat)
    (h : Fin 128) : EReal :=
  if h0 : h.val < 32 then sp (ix2 s ⟨h.val, h0⟩)
  else if h1 : h.val < 64 then tn (ix2 t ⟨h.val - 32, by omega⟩)
  else ps (ix2 ⟨relRow i j, relRow_lt i j⟩ ⟨h.val - 64, by omega⟩)

/-- The id of the pair `(i, j)` in batch `b`, as a row number of a two-row table: the id word's lowest bit. -/
def idOf (x : IVec ⟨3, ![32, 100, 100]⟩ 32) (b : Fin 32) (i j : Fin 100) : Fin 2 :=
  ⟨(x (ix3 b i j)).toNat % 2, by omega⟩

/-- Every id of the array is a row of a two-row table, 0 or 1. -/
def IsIds (x : IVec ⟨3, ![32, 100, 100]⟩ 32) : Prop :=
  ∀ (b : Fin 32) (i j : Fin 100), x (ix3 b i j) = BitVec.ofNat 32 (idOf x b i j).val

/-- The path embedding of every pair of nodes of every batch: the value both programs are shown to compute. -/
def embed (s t : IVec ⟨3, ![32, 100, 100]⟩ 32) (sp tn : FVec Ideal ⟨2, ![2, 32]⟩ .f32)
    (ps : FVec Ideal ⟨2, ![35, 64]⟩ .f32) : FVec Ideal ⟨4, ![32, 100, 100, 128]⟩ .f32 :=
  fun y => pathAt sp tn ps (idOf s (y 0) (y 1) (y 2)) (idOf t (y 0) (y 1) (y 2)) (y 1).val (y 2).val (y 3)

/-- The same with the pairs of one batch in one row of 10000: pair number `p` is `(p / 100, p % 100)`. -/
def embedFlat (s t : IVec ⟨3, ![32, 100, 100]⟩ 32) (sp tn : FVec Ideal ⟨2, ![2, 32]⟩ .f32)
    (ps : FVec Ideal ⟨2, ![35, 64]⟩ .f32) : FVec Ideal ⟨3, ![32, 10000, 128]⟩ .f32 :=
  fun y =>
    have h : (y 1).val < 10000 := (y 1).isLt
    pathAt sp tn ps
      (idOf s (y 0) ⟨(y 1).val / 100, by omega⟩ ⟨(y 1).val % 100, by omega⟩)
      (idOf t (y 0) ⟨(y 1).val / 100, by omega⟩ ⟨(y 1).val % 100, by omega⟩)
      ((y 1).val / 100) ((y 1).val % 100) (y 2)

end Cert.PathWords

end
-- ==== Proof.Block.lean ====
/-
  One block of the kernel: the one-hot product with the stacked table, read at a row and a lane, is the path embedding.
-/
module

public import proofs.«01_k».proof.Proof.Gen.KernelIdeal.Frame
public import proofs.«01_k».proof.Proof.Entry
public import proofs.«01_k».proof.Proof.Words

@[expose] public section

set_option maxRecDepth 16384

noncomputable section

open Idealize.ShloMosaic Idealize.ShloMosaic.TcCoe Idealize.SL.Sem

namespace Cert.KernelIdeal.PathBlock

open Cert.KernelIdeal Cert.KernelIdeal.Gen Cert.KernelIdeal.PathEntry Cert.PathWords

/-- The clipped distance of the block's row `r` at a point of second coordinate `b`: of the pair numbered
    `r + 2000 b` it is the relative-position row, once cut above at 17 and moved up by 17. -/
theorem rel_apply (i : grid0.Coords) (r : Fin 2000) (b : Nat) (hb : (i 1).val = b) (hb5 : b < 5) :
    IntOp.addi (IntOp.minsi (k0_pay5 (ix2 0 r)) (k0_pay4 i (ix2 0 r))) 17#32
      = BitVec.ofNat 32 (relRow ((r.val + b * 2000) / 100) ((r.val + b * 2000) % 100)) := by
  have hr := r.isLt
  have ha : r.val + b * 2000 < 10000 := by omega
  have e : IntOp.addi (BitVec.ofNat 32 r.val) (Scalar.muli (BitVec.ofNat 32 (i 1).val) 2000#32)
      = BitVec.ofNat 32 (r.val + b * 2000) := by
    rw [hb]
    show BitVec.ofNat 32 r.val + BitVec.ofNat 32 b * BitVec.ofNat 32 2000 = _
    rw [← BitVec.ofNat_mul, ← BitVec.ofNat_add]
  pointwise [k0_pay4, k0_pay5]
  rw [e, floorDiv_word _ _ ha]
  have hj : IntOp.subi (BitVec.ofNat 32 (r.val + b * 2000))
      (IntOp.muli (BitVec.ofNat 32 ((r.val + b * 2000) / 100)) 100#32)
      = BitVec.ofNat 32 ((r.val + b * 2000) % 100) := by
    show BitVec.ofNat 32 (r.val + b * 2000) - BitVec.ofNat 32 ((r.val + b * 2000) / 100) * BitVec.ofNat 32 100 = _
    rw [← BitVec.ofNat_mul]
    bv_omega
  rw [hj]
  exact clip_word ⟨(r.val + b * 2000) / 100, by omega⟩ ⟨(r.val + b * 2000) % 100, by omega⟩

/-- The block's one-hot entry: one where the table row `k` is the speaker's, the turn's or the position's row, else zero. -/
theorem hot_word (k s t p : Nat) (hk : k < 40) (hs : s < 2) (ht : t < 2) (hp : p < 35) :
    (FloatOps.sitofp (F := Ideal) .f32
      (BitVec.setWidth 32
        (IntOp.ori
          (IntOp.ori (IntOp.cmpi .eq (BitVec.ofNat 32 k) (BitVec.ofNat 32 s))
            (IntOp.cmpi .eq (BitVec.ofNat 32 k) (IntOp.addi (BitVec.ofNat 32 t) 2#32)))
          (IntOp.cmpi .eq (BitVec.ofNat 32 k) (IntOp.addi (BitVec.ofNat 32 p) 4#32)))) : EReal)
      = if k = s ∨ k = t + 2 ∨ k = p + 4 then 1 else 0 := by
  have e : ∀ a b : Nat, IntOp.addi (BitVec.ofNat 32 a) (BitVec.ofNat 32 b) = BitVec.ofNat 32 (a + b) := fun a b => by
    show BitVec.ofNat 32 a + BitVec.ofNat 32 b = _
    rw [← BitVec.ofNat_add]
  rw [e t 2, e p 4]
  have c : ∀ b : Nat, b < 40 → IntOp.cmpi .eq (BitVec.ofNat 32 k) (BitVec.ofNat 32 b) = if k = b then 1#1 else 0#1 := by
    intro b hb
    split
    · next h => rw [h]; word_cmp
    · next h => word_cmp
  rw [c s (by omega), c (t + 2) (by omega), c (p + 4) (by omega)]
  have one : (FloatOps.sitofp (F := Ideal) .f32 (1#32) : EReal) = 1 := by
    show (((1#32 : BitVec 32).toInt : ℝ) : EReal) = 1
    norm_num
  have zero : (FloatOps.sitofp (F := Ideal) .f32 (0#32) : EReal) = 0 := by
    show (((0#32 : BitVec 32).toInt : ℝ) : EReal) = 0
    norm_num
  have key : ∀ (P Q R : Prop) [Decidable P] [Decidable Q] [Decidable R],
      (FloatOps.sitofp (F := Ideal) .f32 (BitVec.setWidth 32
        (IntOp.ori (IntOp.ori (if P then 1#1 else 0#1) (if Q then 1#1 else 0#1)) (if R then 1#1 else 0#1))) : EReal)
        = if P ∨ Q ∨ R then 1 else 0 := by
    intro P Q R _ _ _
    by_cases h1 : P <;> by_cases h2 : Q <;> by_cases h3 : R <;>
      simp only [h1, h2, h3, if_true, if_false, true_or, or_true, or_self] <;>
      first
        | exact one
        | exact zero
  exact key _ _ _

/-- The one-hot sum over the stacked table picks the path embedding's row: in each third of the lanes only one of the
    three ones meets a row of the table that is not zero there. -/
theorem pick (sp tn : FVec Ideal S2x32 .f32) (ps : FVec Ideal S35x64 .f32) (s t : Fin 2) (i j : Nat) (h : Fin 128) :
    (∑ k : Fin 40, (if k.val = s.val ∨ k.val = t.val + 2 ∨ k.val = relRow i j + 4 then (1 : EReal) else 0)
        * stacked sp tn ps k h) = pathAt sp tn ps s t i j h := by
  have hs := s.isLt
  have ht := t.isLt
  have hp := relRow_lt i j
  have hh := h.isLt
  unfold pathAt
  split
  · next h0 =>
    rw [Finset.sum_eq_single (⟨s.val, by omega⟩ : Fin 40)]
    · rw [if_pos (Or.inl rfl), one_mul]
      unfold stacked
      rw [dif_neg (by dsimp only; omega), dif_neg (by dsimp only; omega), dif_pos (by dsimp only; omega)]
      rfl
    · intro k _ hk
      have hk' : k.val ≠ s.val := fun e => hk (Fin.ext e)
      unfold stacked
      rw [dif_neg (by omega), dif_neg (by omega)]
      by_cases hr : k.val < 2
      · rw [if_neg (by omega), zero_mul]
      · rw [dif_neg (by omega), mul_zero]
    · intro hn
      exact absurd (Finset.mem_univ _) hn
  · split
    · next h0 h1 =>
      rw [Finset.sum_eq_single (⟨t.val + 2, by omega⟩ : Fin 40)]
      · rw [if_pos (Or.inr (Or.inl rfl)), one_mul]
        unfold stacked
        rw [dif_neg (by dsimp only; omega), dif_pos (by dsimp only; omega)]
        rfl
      · intro k _ hk
        have hk' : k.val ≠ t.val + 2 := fun e => hk (Fin.ext e)
        unfold stacked
        rw [dif_neg (by omega)]
        by_cases hr : 2 ≤ k.val ∧ k.val < 4
        · rw [if_neg (by omega), zero_mul]
        · rw [dif_neg (by omega), dif_neg (by omega), mul_zero]
      · intro hn
        exact absurd (Finset.mem_univ _) hn
    · next h0 h1 =>
      rw [Finset.sum_eq_single (⟨relRow i j + 4, by omega⟩ : Fin 40)]
      · rw [if_pos (Or.inr (Or.inr rfl)), one_mul]
        unfold stacked
        rw [dif_pos (by dsimp only; omega)]
        rfl
      · intro k _ hk
        have hk' : k.val ≠ relRow i j + 4 := fun e => hk (Fin.ext e)
        unfold stacked
        by_cases hr : 4 ≤ k.val ∧ k.val < 39
        · rw [if_neg (by omega), zero_mul]
        · rw [dif_neg (by omega), dif_neg (by omega), dif_neg (by omega), mul_zero]
      · intro hn
        exact absurd (Finset.mem_univ _) hn

/-- The block the kernel stores at a point of second coordinate `b`, read at row `r` and lane `h`: the path embedding of
    the pair numbered `r + 2000 b`, when the row's two ids are rows of their tables and the loaded table is the stacked one. -/
theorem block_apply (i : grid0.Coords) (x0 x1 : Vec Ideal S1x1x1x2000 .i32) (x2 : Vec Ideal S40x128 .f32)
    (sp tn : FVec Ideal S2x32 .f32) (ps : FVec Ideal S35x64 .f32) (r : Fin 2000) (h : Fin 128) (s t : Fin 2) (b : Nat)
    (hb : (i 1).val = b) (hb5 : b < 5)
    (h0 : x0 (ix4 0 0 0 r) = BitVec.ofNat 32 s.val) (h1 : x1 (ix4 0 0 0 r) = BitVec.ofNat 32 t.val)
    (h2 : ∀ (k : Fin 40) (h : Fin 128), x2 (ix2 k h) = stacked sp tn ps k h) :
    k0_pay1 (F := Ideal) (k0_pay2 x0) (k0_pay3 x1) (k0_pay4 i) k0_pay5 x2 (ix3 0 r h)
      = pathAt sp tn ps s t ((r.val + b * 2000) / 100) ((r.val + b * 2000) % 100) h := by
  have hd := rel_apply i r b hb hb5
  rw [← pick]
  pointwise [k0_pay1, k0_pay2, k0_pay3]
  refine Finset.sum_congr rfl fun k _ => ?_
  rw [h0, h1, hd, h2, hot_word k.val s.val t.val _ k.isLt s.isLt t.isLt (relRow_lt _ _)]

/-- The rectangle of the kernel's accesses starts at the origin of the block. -/
theorem origin4 : (![0, 0, 0, 0] : Fin 4 → Nat) = fun _ => 0 := funext fun a => by fin_cases a <;> rfl
/-- The zero offset of rank 3, as a function. -/
theorem origin3 : (![0, 0, 0] : Fin 3 → Nat) = fun _ => 0 := funext fun a => by fin_cases a <;> rfl
/-- The zero offset of rank 2, as a function. -/
theorem origin2 : (![0, 0] : Fin 2 → Nat) = fun _ => 0 := funext fun a => by fin_cases a <;> rfl

/-- What the body leaves in the output block is the product of the loaded blocks: it loads and stores whole blocks. -/
theorem out_eq (i : grid0.Coords) (x0 x1 : Vec Ideal S1x1x1x2000 .i32) (x2 : Vec Ideal S40x128 .f32) :
    out0_3 (F := Ideal) i x0 x1 x2 = k0_pay1 (F := Ideal) (k0_pay2 x0) (k0_pay3 x1) (k0_pay4 i) k0_pay5 x2 := by
  unfold out0_3
  rw [View.canon_unit_zero origin3, View.ld_unit_zero origin4, View.ld_unit_zero origin4, View.ld_unit_zero origin2]

end Cert.KernelIdeal.PathBlock

end
-- ==== Proof.KernelRun.lean ====
/-
  The kernel's run: every point writes its own block of the path embedding, the blocks tile the array, and the host's
  last reshape lays the array out by pairs of nodes.
-/
module

public import proofs.«01_k».proof.Proof.Block
public import proofs.«01_k».proof.Proof.Gen.KernelIdeal.Points
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)

namespace Cert.KernelIdeal.PathRun

open Cert.KernelIdeal Cert.KernelIdeal.Gen Cert.KernelIdeal.PathEntry Cert.KernelIdeal.PathBlock Cert.PathWords

variable (m : (ℓ : Loc nD τ sig) → Buf (Elt Ideal) ℓ) (ρ : Dev nD → PrngReg)

/-! ## Where each window's block lies, by the point's number -/

/-- The first coordinate of point `t` is `t / 5`, the second `t % 5`. -/
theorem coord1 : ∀ t : Fin grid0.N, (grid0.coords t 1).val = t.val % 5 := by decide +kernel

/-- Where the speaker ids' window starts at point `t`. -/
theorem off0 : ∀ t : Fin grid0.N, win0_0.index t 0 * win0_0.size 0 = t.val / 5 ∧ win0_0.index t 1 * win0_0.size 1 = t.val % 5
    ∧ win0_0.index t 2 * win0_0.size 2 = 0 ∧ win0_0.index t 3 * win0_0.size 3 = 0 := by decide +kernel

/-- Where the turn ids' window starts at point `t`. -/
theorem off1 : ∀ t : Fin grid0.N, win0_1.index t 0 * win0_1.size 0 = t.val / 5 ∧ win0_1.index t 1 * win0_1.size 1 = t.val % 5
    ∧ win0_1.index t 2 * win0_1.size 2 = 0 ∧ win0_1.index t 3 * win0_1.size 3 = 0 := by decide +kernel

/-- The table window's block is the whole table at every point. -/
theorem off2 : ∀ t : Fin grid0.N, win0_2.index t 0 * win0_2.size 0 = 0 ∧ win0_2.index t 1 * win0_2.size 1 = 0 := by
  decide +kernel

/-- The offsets and sizes of the output window's block at point `t`. -/
theorem off3 : ∀ t : Fin grid0.N, win0_3.index t 0 * win0_3.size 0 = t.val / 5
    ∧ win0_3.index t 1 * win0_3.size 1 = t.val % 5 * 2000 ∧ win0_3.index t 2 * win0_3.size 2 = 0
    ∧ win0_3.xsize (grid0.coords t) 0 = 1 ∧ win0_3.xsize (grid0.coords t) 1 = 2000
    ∧ win0_3.xsize (grid0.coords t) 2 = 128 := by decide +kernel

/-- The grid has 160 points. -/
theorem lt160 (t : Fin grid0.N) : t.val < 160 := lt_of_lt_of_eq t.isLt N_0

/-! ## The blocks read at an index -/

/-- The first window's block at point `t`, row `r`, is the array the region finds at batch `t / 5`, chunk `t % 5`, row `r`. -/
theorem iblk0_apply (c : Dev nD) (t : Fin cfg0.N) (r : Fin 2000) :
    iblk m c 0 t (ix4 0 0 0 r)
      = V m c main_v13 (ix4 ⟨t.val / 5, by have := lt160 t; omega⟩ ⟨t.val % 5, by omega⟩ 0 r) := by
  have e : (((cfg0.win 0).blk t).view.emb (ix4 0 0 0 r) : S32x5x1x2000.Idx)
      = ix4 ⟨t.val / 5, by have := lt160 t; omega⟩ ⟨t.val % 5, by omega⟩ 0 r := by
    funext a
    refine Fin.ext ((ValueKit.view_emb_slice_whole_unit_val main_v13 _ _ _ _ a).trans ?_)
    obtain ⟨e0, e1, e2, e3⟩ := off0 t
    match a with
    | ⟨0, _⟩ => show win0_0.index t 0 * win0_0.size 0 + 0 = t.val / 5; omega
    | ⟨1, _⟩ => show win0_0.index t 1 * win0_0.size 1 + 0 = t.val % 5; omega
    | ⟨2, _⟩ => show win0_0.index t 2 * win0_0.size 2 + 0 = 0; omega
    | ⟨3, _⟩ => show win0_0.index t 3 * win0_0.size 3 + r.val = r.val; omega
  exact congrArg (V m c main_v13) e

/-- The turn ids' block at point `t`: chunk `t % 5` of batch `t / 5`. -/
theorem iblk1_apply (c : Dev nD) (t : Fin cfg0.N) (r : Fin 2000) :
    iblk m c 1 t (ix4 0 0 0 r)
      = V m c main_v14 (ix4 ⟨t.val / 5, by have := lt160 t; omega⟩ ⟨t.val % 5, by omega⟩ 0 r) := by
  have e : (((cfg0.win 1).blk t).view.emb (ix4 0 0 0 r) : S32x5x1x2000.Idx)
      = ix4 ⟨t.val / 5, by have := lt160 t; omega⟩ ⟨t.val % 5, by omega⟩ 0 r := by
    funext a
    refine Fin.ext ((ValueKit.view_emb_slice_whole_unit_val main_v14 _ _ _ _ a).trans ?_)
    obtain ⟨e0, e1, e2, e3⟩ := off1 t
    match a with
    | ⟨0, _⟩ => show win0_1.index t 0 * win0_1.size 0 + 0 = t.val / 5; omega
    | ⟨1, _⟩ => show win0_1.index t 1 * win0_1.size 1 + 0 = t.val % 5; omega
    | ⟨2, _⟩ => show win0_1.index t 2 * win0_1.size 2 + 0 = 0; omega
    | ⟨3, _⟩ => show win0_1.index t 3 * win0_1.size 3 + r.val = r.val; omega
  exact congrArg (V m c main_v14) e

/-- The table window's block is the table the region finds. -/
theorem iblk2_apply (c : Dev nD) (t : Fin cfg0.N) (k : Fin 40) (h : Fin 128) :
    iblk m c 2 t (ix2 k h) = V m c main_v12 (ix2 k h) := by
  have e : (((cfg0.win 2).blk t).view.emb (ix2 k h) : S40x128.Idx) = ix2 k h := by
    funext a
    refine Fin.ext ((ValueKit.view_emb_slice_whole_unit_val main_v12 _ _ _ _ a).trans ?_)
    obtain ⟨e0, e1⟩ := off2 t
    match a with
    | ⟨0, _⟩ => show win0_2.index t 0 * win0_2.size 0 + k.val = k.val; omega
    | ⟨1, _⟩ => show win0_2.index t 1 * win0_2.size 1 + h.val = h.val; omega
  exact congrArg (V m c main_v12) e

/-- The output window's block at point `t` takes its row `r` to row `2000 (t % 5) + r` of batch `t / 5`. -/
theorem emb3 (t : Fin cfg0.N) (r : Fin 2000) (h : Fin 128) :
    (((cfg0.win 3).blk t).view.emb (ix3 0 r h) : S32x10000x128.Idx)
      = ix3 ⟨t.val / 5, by have := lt160 t; omega⟩ ⟨r.val + t.val % 5 * 2000, by have := r.isLt; omega⟩ h := by
  funext a
  refine Fin.ext ((ValueKit.view_emb_slice_whole_unit_val main_v15 _ _ _ _ a).trans ?_)
  obtain ⟨e0, e1, e2, -⟩ := off3 t
  match a with
  | ⟨0, _⟩ => show win0_3.index t 0 * win0_3.size 0 + 0 = t.val / 5; omega
  | ⟨1, _⟩ => show win0_3.index t 1 * win0_3.size 1 + r.val = r.val + t.val % 5 * 2000; omega
  | ⟨2, _⟩ => show win0_3.index t 2 * win0_3.size 2 + h.val = h.val; omega

/-- The id blocks reshaped: chunk `k`, row `r` of batch `b` is the pair numbered `r + 2000 k` of that batch. -/
theorem chunk_apply (x : IVec S32x100x100 32) (b : Fin 32) (k : Fin 5) (r : Fin 2000) :
    shapeCast S32x5x1x2000 x shapeCasts_S32x100x100_S32x5x1x2000 (ix4 b k 0 r)
      = x (ix3 b ⟨(r.val + k.val * 2000) / 100, by have := r.isLt; have := k.isLt; omega⟩
          ⟨(r.val + k.val * 2000) % 100, by omega⟩) := by
  pointwise
  exact congrArg x (congrArg₂ (ix3 b) (Fin.ext (by dsimp only; omega)) (Fin.ext (by dsimp only; omega)))

/-! ## The array after the run -/

/-- The speaker ids of device `c`. -/
abbrev spk (c : Dev nD) : IVec S32x100x100 32 := m ((c.tc : Thread nD τ).loc main_arg0)
/-- The turn ids of device `c`. -/
abbrev trn (c : Dev nD) : IVec S32x100x100 32 := m ((c.tc : Thread nD τ).loc main_arg1)
/-- The speaker table of device `c`. -/
abbrev spkT (c : Dev nD) : FVec Ideal S2x32 .f32 := m ((c.tc : Thread nD τ).loc main_arg2)
/-- The turn table of device `c`. -/
abbrev trnT (c : Dev nD) : FVec Ideal S2x32 .f32 := m ((c.tc : Thread nD τ).loc main_arg3)
/-- The position table of device `c`. -/
abbrev posT (c : Dev nD) : FVec Ideal S35x64 .f32 := m ((c.tc : Thread nD τ).loc main_arg4)

/-- What the output array is shown to hold: the path embedding of device `c`'s arguments, by pair number. -/
abbrev flat (c : Dev nD) : Buf (Elt Ideal) ((c : Thread nD τ).loc main_v15) :=
  embedFlat (spk m c) (trn m c) (spkT m c) (trnT m c) (posT m c)

/-- An index of a block is a pair of a row and a lane: a block has one batch. -/
theorem row_of (y : S1x2000x128.Idx) : ∃ (r : Fin 2000) (h : Fin 128), y = ix3 0 r h := by
  idx_vars y
  have h0 : y0 = 0 := Subsingleton.elim _ _
  subst h0
  exact ⟨y1, y2, rfl⟩

/-- What point `t` writes back is its block of the path embedding, when the ids are rows of their tables. -/
theorem flushed_eq (c : Dev nD) (hs : IsIds (spk m c)) (ht : IsIds (trn m c)) (t : Fin cfg0.N) :
    (dats m 0 c).flushed 3 t = ((cfg0.win 3).blk t).view.read (Elt Ideal) (flat m c) := by
  show (cfg0.win 3).cut (grid0.coords t) ((dats m 0 c).after 3 t) = _
  rw [after0_3, out_eq]
  funext y
  have hN := lt160 t
  have key : ∀ (r : Fin 2000) (h : Fin 128),
      k0_pay1 (F := Ideal) (k0_pay2 (iblk m c 0 t)) (k0_pay3 (iblk m c 1 t)) (k0_pay4 (grid0.coords t)) k0_pay5
        (iblk m c 2 t) (ix3 0 r h)
      = flat m c (ix3 ⟨t.val / 5, by omega⟩ ⟨r.val + t.val % 5 * 2000, by have := r.isLt; omega⟩ h) := by
    intro r h
    refine block_apply (grid0.coords t) _ _ _ (spkT m c) (trnT m c) (posT m c) r h _ _ (t.val % 5) (coord1 t) (by omega)
      ?_ ?_ ?_
    · rw [iblk0_apply, V_v13]
      exact (chunk_apply (spk m c) _ _ r).trans (hs _ _ _)
    · rw [iblk1_apply, V_v14]
      exact (chunk_apply (trn m c) _ _ r).trans (ht _ _ _)
    · intro k h
      rw [iblk2_apply, V_v12]
      exact written_apply _ _ _ k h
  obtain ⟨r, h, hy⟩ := row_of y
  have e : y = ix3 0 r h := hy
  rw [e]
  exact (key r h).trans (congrArg (flat m c) (emb3 t r h)).symm

/-- An index of the output array is in point `t`'s block when its batch is `t / 5` and its pair number is in chunk `t % 5`. -/
theorem mem_blk (t : Fin cfg0.N) (i : S32x10000x128.Idx) :
    i ∈ ((cfg0.win 3).blk t).view.set
      ↔ (i 0).val = t.val / 5 ∧ t.val % 5 * 2000 ≤ (i 1).val ∧ (i 1).val < t.val % 5 * 2000 + 2000 := by
  show i ∈ ((View.whole main_v15).slice (win0_3.rect t)).set ↔ _
  rw [View.set_slice_whole, Rect.mem_set_unit]
  have h2 : (i 2).val < 128 := (i 2).isLt
  obtain ⟨e0, e1, e2, f0, f1, f2⟩ := off3 t
  refine ⟨fun h => ?_, fun h a => ?_⟩
  · have a0 : win0_3.index t 0 * win0_3.size 0 ≤ (i 0).val
        ∧ (i 0).val < win0_3.index t 0 * win0_3.size 0 + win0_3.xsize (grid0.coords t) 0 := h 0
    have a1 : win0_3.index t 1 * win0_3.size 1 ≤ (i 1).val
        ∧ (i 1).val < win0_3.index t 1 * win0_3.size 1 + win0_3.xsize (grid0.coords t) 1 := h 1
    rw [e0, f0] at a0
    rw [e1, f1] at a1
    exact ⟨by omega, a1⟩
  · match a with
    | ⟨0, _⟩ =>
      show win0_3.index t 0 * win0_3.size 0 ≤ (i 0).val
        ∧ (i 0).val < win0_3.index t 0 * win0_3.size 0 + win0_3.xsize (grid0.coords t) 0
      rw [e0, f0]
      omega
    | ⟨1, _⟩ =>
      show win0_3.index t 1 * win0_3.size 1 ≤ (i 1).val
        ∧ (i 1).val < win0_3.index t 1 * win0_3.size 1 + win0_3.xsize (grid0.coords t) 1
      rw [e1, f1]
      omega
    | ⟨2, _⟩ =>
      show win0_3.index t 2 * win0_3.size 2 ≤ (i 2).val
        ∧ (i 2).val < win0_3.index t 2 * win0_3.size 2 + win0_3.xsize (grid0.coords t) 2
      rw [e2, f2]
      omega

/-- The output's blocks tile its array: pair `p` of batch `b` is in the block of point `5 b + p / 2000`. -/
theorem cover (i : S32x10000x128.Idx) :
    ∃ t : Fin cfg0.N, (cfg0.win 3).flush t = true ∧ i ∈ ((cfg0.win 3).blk t).view.set := by
  have h0 : (i 0).val < 32 := (i 0).isLt
  have h1 : (i 1).val < 10000 := (i 1).isLt
  have hN : cfg0.N = 160 := N_0
  refine ⟨⟨(i 0).val * 5 + (i 1).val / 2000, by omega⟩, flush0_3 _, ?_⟩
  rw [mem_blk]
  dsimp only
  omega

/-- The output array ends holding the path embedding by pair number. -/
theorem final (c : Dev nD) (hs : IsIds (spk m c)) (ht : IsIds (trn m c)) :
    (dats m 0 c).arrAt 3 cfg0.N = flat m c :=
  (dats m 0 c).arrAt_eq_of_cover 3 (flat m c) (fun t _ => flushed_eq m c hs ht t) cover

/-- The host's last reshape lays the pair numbers out as pairs. -/
theorem unflat (s t : IVec S32x100x100 32) (sp tn : FVec Ideal S2x32 .f32) (ps : FVec Ideal S35x64 .f32) :
    shapeCast S32x100x100x128 (embedFlat s t sp tn ps) shapeCasts_S32x10000x128_S32x100x100x128 = embed s t sp tn ps := by
  funext y
  idx_vars y
  pointwise
  have h1 : (y1.val * 100 + y2.val) / 100 = y1.val := by have := y2.isLt; omega
  have h2 : (y1.val * 100 + y2.val) % 100 = y2.val := by have := y2.isLt; omega
  have e : ∀ (i j : Fin 100) (p q : Nat), i = y1 → j = y2 → p = y1.val → q = y2.val →
      pathAt sp tn ps (idOf s y0 i j) (idOf t y0 i j) p q y3
        = pathAt sp tn ps (idOf s y0 y1 y2) (idOf t y0 y1 y2) y1.val y2.val y3 := by
    rintro i j p q rfl rfl rfl rfl
    rfl
  exact e _ _ _ _ (Fin.ext h1) (Fin.ext h2) h1 h2

/-- No two windows have one array. -/
theorem arrays_inj : Function.Injective (Pipeline.arrRef (cfgs 0).spec) := by
  decide

/-- The kernel's result after the host's last line. -/
theorem tail_v16 (c : Dev nD) :
    Pipeline.afterTail₀ cfgs (dats m) 0 (V0 m) [hostOps1] c main_v16
      = shapeCast S32x100x100x128 ((dats m 0 c).arrAt 3 cfg0.N) shapeCasts_S32x10000x128_S32x100x100x128 := by
  show StableHlo.after hostOps1 _ _ = _
  after_results
  exact congrArg (fun x : FVec Ideal S32x10000x128 .f32 => shapeCast S32x100x100x128 x shapeCasts_S32x10000x128_S32x100x100x128)
    (Pipeline.withArrays_arr (cfgs 0).spec arrays_inj c (V0 m c) (fun w => (dats m 0 c).arrAt w (cfgs 0).N) 3)

/-- The kernel's run: its result is the path embedding of its arguments, which are unchanged, when the ids of every
    device are rows of their tables. -/
theorem run (ρ : Dev nD → PrngReg) (hs : ∀ c, IsIds (spk m c)) (ht : ∀ c, IsIds (trn m c)) :
    θ_run defs (onTc (τ := τ) (main (F := Ideal))) ⟨m, fun _ => 0, ρ⟩ (fun r => ∀ c : Dev nD,
      r.2.mem ((c.tc : Thread nD τ).loc main_v16) = embed (spk m c) (trn m c) (spkT m c) (trnT m c) (posT m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have hv : θ_run defs (onTc (τ := τ) (main (F := Ideal))) ⟨m, fun _ => 0, ρ⟩ (fun r => ∀ c : Dev nD,
      r.2.mem ((c.tc : Thread nD τ).loc main_v16) = embed (spk m c) (trn m c) (spkT m c) (trnT m c) (posT m c)) :=
    (θ_run defs _ _).mono (fun r h c =>
      ((h c).2 main_v16 (Pipeline.mem_restRefs_of main_v16 (by decide) (by decide))).trans
        ((tail_v16 m c).trans ((congrArg (fun x : FVec Ideal S32x10000x128 .f32 =>
            shapeCast S32x100x100x128 x shapeCasts_S32x10000x128_S32x100x100x128) (final m c (hs c) (ht c))).trans
          (unflat _ _ _ _ _)))) (run_main m ρ)
  exact (θ_run defs _ _).mono (fun r h c => ⟨h.1 c, h.2 c⟩) (θ_run_and hv (unchanged m ρ))

end Cert.KernelIdeal.PathRun

end
-- ==== Proof.RefRead.lean ====
/-
  The reference program's result, read at an index: the three tables' rows at the pair's speaker id, turn id and clipped
  relative position, one after the other along the last axis.
-/
module

public import proofs.«01_k».proof.Proof.Gen.ReferenceIdeal.Run
public import proofs.«01_k».proof.Proof.Words
public import Idealize.ShloMosaic.Lib.Pointwise
public import Idealize.ShloMosaic.Lib.ReduceAll

@[expose] public section

set_option maxRecDepth 16384

noncomputable section

namespace Cert.ReferenceIdeal.PathRef

open Cert.ReferenceIdeal Cert.ReferenceIdeal.Gen Cert.ReferenceIdeal.Facts Cert.PathWords
open Idealize.ShloMosaic Idealize.ShloMosaic.TcCoe Idealize.SL.Sem

/-! ## The pieces of the result, as functions of the arguments -/

/-- The ids as row numbers of a two-row table, a negative one counted from the end. -/
def rows (x : IVec S32x100x100 32) : IVec S32x100x100x1 32 :=
  broadcastInDim S32x100x100x1 ![0, 1, 2] bcast_S32x100x100_S32x100x100x1_0_1_2
    (select (cmpi .slt x (broadcastInDim S32x100x100 ![] bcast_S_S32x100x100 (constantI S_ 32 0#32)))
      (addi x (broadcastInDim S32x100x100 ![] bcast_S_S32x100x100 (constantI S_ 32 2#32))) x)

/-- Whether each row number is inside its table. -/
def inside (x : IVec S32x100x100 32) : IVec S32x100x100 1 :=
  Host.reduce IntOp.andi
    (andi (cmpi .sge (rows x) (broadcastInDim S32x100x100x1 ![] bcast_S_S32x100x100x1 (constantI S_ 32 0#32)))
      (cmpi .sle (rows x) (broadcastInDim S32x100x100x1 ![0, 1, 2, 3] bcast_S1x1x1x1_S32x100x100x1_0_1_2_3
        (broadcastInDim S1x1x1x1 ![3] bcast_S1_S1x1x1x1_3 (constantI S1 32 1#32)))))
    (constantI S_ 1 1#1) reducesTo_S32x100x100x1_S32x100x100_d3 h_S_

/-- The rows of a two-row table at the ids. -/
def taken (x : IVec S32x100x100 32) (tab : FVec Ideal S2x32 .f32) : FVec Ideal S32x100x100x32 .f32 :=
  select (broadcastInDim S32x100x100x32 ![0, 1, 2] bcast_S32x100x100_S32x100x100x32_0_1_2 (inside x))
    (Host.gather gather_S2x32_S32x100x100x1_S32x100x100x32_3_0_n_n_0_3_132 tab (rows x))
    (broadcastInDim S32x100x100x32 ![] bcast_S_S32x100x100x32 (constant S_ .f32 0x7FC00000#32))

/-- The difference `j - i` over the whole pool of positions. -/
def diff : IVec S200x200 32 :=
  subi (broadcastInDim S200x200 ![0, 1] bcast_S1x200_S200x200_0_1 (broadcastInDim S1x200 ![1] bcast_S200_S1x200_1 (iotaInDim S200 32 0)))
    (broadcastInDim S200x200 ![0, 1] bcast_S200x1_S200x200_0_1 (broadcastInDim S200x1 ![0] bcast_S200_S200x1_0 (iotaInDim S200 32 0)))

/-- The difference, cut from above. -/
def capped : IVec S200x200 32 :=
  select (cmpi .sgt diff (broadcastInDim S200x200 ![] bcast_S_S200x200 (constantI S_ 32 16#32)))
    (broadcastInDim S200x200 ![] bcast_S_S200x200 (id (constantI S_ 32 17#32))) diff

/-- The relative position's row number, for the positions in use. -/
def relative : IVec S100x100 32 :=
  extractStridedSlice S100x100 ![0, 0]
    (addi (addi (select (cmpi .slt capped (broadcastInDim S200x200 ![] bcast_S_S200x200 (constantI S_ 32 4294967280#32)))
        (broadcastInDim S200x200 ![] bcast_S_S200x200 (id (constantI S_ 32 4294967279#32))) capped)
      (broadcastInDim S200x200 ![] bcast_S_S200x200 (constantI S_ 32 16#32)))
      (broadcastInDim S200x200 ![] bcast_S_S200x200 (constantI S_ 32 1#32))) slices_S200x200_S100x100_0_0

/-- The relative positions as row numbers of the position table, a negative one counted from the end. -/
def posRows : IVec S100x100x1 32 :=
  broadcastInDim S100x100x1 ![0, 1] bcast_S100x100_S100x100x1_0_1
    (select (cmpi .slt relative (broadcastInDim S100x100 ![] bcast_S_S100x100 (constantI S_ 32 0#32)))
      (addi relative (broadcastInDim S100x100 ![] bcast_S_S100x100 (constantI S_ 32 35#32))) relative)

/-- Whether each of them is inside the position table. -/
def posInside : IVec S100x100 1 :=
  Host.reduce IntOp.andi
    (andi (cmpi .sge posRows (broadcastInDim S100x100x1 ![] bcast_S_S100x100x1 (constantI S_ 32 0#32)))
      (cmpi .sle posRows (broadcastInDim S100x100x1 ![0, 1, 2] bcast_S1x1x1_S100x100x1_0_1_2
        (broadcastInDim S1x1x1 ![2] bcast_S1_S1x1x1_2 (constantI S1 32 34#32)))))
    (constantI S_ 1 1#1) reducesTo_S100x100x1_S100x100_d2 h_S_

/-- The rows of the position table at the relative positions. -/
def posTaken (tab : FVec Ideal S35x64 .f32) : FVec Ideal S100x100x64 .f32 :=
  select (broadcastInDim S100x100x64 ![0, 1] bcast_S100x100_S100x100x64_0_1 posInside)
    (Host.gather gather_S35x64_S100x100x1_S100x100x64_2_0_n_n_0_2_164 tab posRows)
    (broadcastInDim S100x100x64 ![] bcast_S_S100x100x64 (constant S_ .f32 0x7FC00000#32))

/-- The three pieces along the last axis. -/
def joined (u0 u1 : FVec Ideal S32x100x100x32 .f32) (u2 : FVec Ideal S100x100x64 .f32) : FVec Ideal S32x100x100x128 .f32 :=
  concatenate S32x100x100x128 3 [⟨S32x100x100x32, u0⟩, ⟨S32x100x100x32, u1⟩,
    ⟨S32x100x100x64, broadcastInDim S32x100x100x64 ![0, 1, 2, 3] bcast_S1x100x100x64_S32x100x100x64_0_1_2_3
      (broadcastInDim S1x100x100x64 ![1, 2, 3] bcast_S100x100x64_S1x100x100x64_1_2_3 u2)⟩]
    concatenates_S32x100x100x32_S32x100x100x32_S32x100x100x64_S32x100x100x128_d3

/-- The reference's result is these pieces, put together. -/
theorem res_eq (m : (ℓ : Loc nD τ sig) → Buf (Elt Ideal) ℓ) (c : Dev nD) :
    Value.res_main_v22 m c
      = joined (taken (m ((c.tc : Thread nD τ).loc main_arg0)) (m ((c.tc : Thread nD τ).loc main_arg2)))
          (taken (m ((c.tc : Thread nD τ).loc main_arg1)) (m ((c.tc : Thread nD τ).loc main_arg3)))
          (posTaken (m ((c.tc : Thread nD τ).loc main_arg4))) := rfl

/-! ## The row numbers -/

/-- An id in use is its own row number. -/
theorem rows_apply (x : IVec S32x100x100 32) (hx : IsIds x) (b : Fin 32) (i j : Fin 100) :
    rows x (ix4 b i j 0) = BitVec.ofNat 32 (idOf x b i j).val := by
  unfold rows
  pointwise
  rw [hx b i j]
  generalize idOf x b i j = s
  revert s
  decide

/-- Every id in use is inside its table. -/
theorem inside_apply (x : IVec S32x100x100 32) (hx : IsIds x) (k : S32x100x100.Idx) : inside x k = 1#1 := by
  refine Host.reduce_andi_one _ _ _ _ _ rfl fun y => ?_
  idx_vars y
  have e3 : y3 = 0 := Subsingleton.elim _ _
  subst e3
  pointwise
  rw [rows_apply x hx]
  generalize idOf x y0 y1 y2 = s
  revert s
  decide

/-- The relative position's row number. -/
theorem relative_apply (i j : Fin 100) : relative (ix2 i j) = BitVec.ofNat 32 (relRow i.val j.val) := by
  unfold relative capped diff
  pointwise
  exact pool_word i j

/-- It is its own row number: it is not negative. -/
theorem posRows_apply (i j : Fin 100) : posRows (ix3 i j 0) = BitVec.ofNat 32 (relRow i.val j.val) := by
  unfold posRows
  pointwise
  rw [relative_apply]
  have h := relRow_lt i.val j.val
  generalize relRow i.val j.val = k at h ⊢
  have key : ∀ k : Fin 35, Scalar.select (IntOp.cmpi .slt (BitVec.ofNat 32 k.val) 0#32)
      (IntOp.addi (BitVec.ofNat 32 k.val) 35#32) (BitVec.ofNat 32 k.val) = BitVec.ofNat 32 k.val := by decide
  exact key ⟨k, h⟩

/-- Every relative position is inside the position table. -/
theorem posInside_apply (k : S100x100.Idx) : posInside k = 1#1 := by
  refine Host.reduce_andi_one _ _ _ _ _ rfl fun y => ?_
  idx_vars y
  have e2 : y2 = 0 := Subsingleton.elim _ _
  subst e2
  pointwise
  rw [posRows_apply]
  have h := relRow_lt y0.val y1.val
  generalize relRow y0.val y1.val = k at h ⊢
  have key : ∀ k : Fin 35, IntOp.andi (IntOp.cmpi .sge (BitVec.ofNat 32 k.val) 0#32) (IntOp.cmpi .sle (BitVec.ofNat 32 k.val) 34#32) = 1#1 := by
    decide
  exact key ⟨k, h⟩

/-! ## The gathers -/

/-- A row of a two-row table, gathered at an index array of rank 4: where the index array holds row `s`, the table's row `s`. -/
theorem gather_pair (tab : FVec Ideal S2x32 .f32) (idx : IVec S32x100x100x1 32) (b : Fin 32) (i j : Fin 100) (h : Fin 32)
    (s : Fin 2) (hs : idx (ix4 b i j 0) = BitVec.ofNat 32 s.val) :
    Host.gather gather_S2x32_S32x100x100x1_S32x100x100x32_3_0_n_n_0_3_132 tab idx (ix4 b i j h) = tab (ix2 s h) := by
  have hsi : ∀ k, GatherDims.siIdx gather_S2x32_S32x100x100x1_S32x100x100x32_3_0_n_n_0_3_132 (ix4 b i j h) k = ix4 b i j 0 := by
    intro k
    funext a
    match a with
    | ⟨0, _⟩ => rfl
    | ⟨1, _⟩ => rfl
    | ⟨2, _⟩ => rfl
    | ⟨3, _⟩ => exact Subsingleton.elim (α := Fin 1) _ _
  have hst : GatherDims.start gather_S2x32_S32x100x100x1_S32x100x100x32_3_0_n_n_0_3_132 (ix4 b i j h) idx 0 = s.val := by
    unfold GatherDims.start
    refine (dif_pos (List.mem_singleton.2 rfl)).trans ?_
    rw [hsi, hs]
    have key : ∀ r : Fin 2, min (BitVec.ofNat 32 r.val).toInt.toNat (2 - 1) = r.val := by decide
    exact key s
  unfold Host.gather
  refine congrArg tab (funext fun a => Fin.ext ?_)
  match a with
  | ⟨0, _⟩ =>
    show GatherDims.start _ (ix4 b i j h) idx 0 + GatherDims.batchCoord _ (ix4 b i j h) 0 + GatherDims.offCoord _ (ix4 b i j h) 0 = s.val
    rw [hst]
    rfl
  | ⟨1, _⟩ =>
    show GatherDims.start _ (ix4 b i j h) idx 1 + GatherDims.batchCoord _ (ix4 b i j h) 1 + GatherDims.offCoord _ (ix4 b i j h) 1 = h.val
    have h1 : GatherDims.start gather_S2x32_S32x100x100x1_S32x100x100x32_3_0_n_n_0_3_132 (ix4 b i j h) idx 1 = 0 := rfl
    have h2 : GatherDims.batchCoord gather_S2x32_S32x100x100x1_S32x100x100x32_3_0_n_n_0_3_132 (ix4 b i j h) 1 = 0 := rfl
    have h3 : GatherDims.offCoord gather_S2x32_S32x100x100x1_S32x100x100x32_3_0_n_n_0_3_132 (ix4 b i j h) 1 = h.val := rfl
    rw [h1, h2, h3]
    omega

/-- A row of the position table, gathered at an index array of rank 3: where the index array holds row `k`, the table's row `k`. -/
theorem gather_pos (tab : FVec Ideal S35x64 .f32) (idx : IVec S100x100x1 32) (i j : Fin 100) (h : Fin 64)
    (k : Fin 35) (hk : idx (ix3 i j 0) = BitVec.ofNat 32 k.val) :
    Host.gather gather_S35x64_S100x100x1_S100x100x64_2_0_n_n_0_2_164 tab idx (ix3 i j h) = tab (ix2 k h) := by
  have hsi : ∀ l, GatherDims.siIdx gather_S35x64_S100x100x1_S100x100x64_2_0_n_n_0_2_164 (ix3 i j h) l = ix3 i j 0 := by
    intro l
    funext a
    match a with
    | ⟨0, _⟩ => rfl
    | ⟨1, _⟩ => rfl
    | ⟨2, _⟩ => exact Subsingleton.elim (α := Fin 1) _ _
  have hst : GatherDims.start gather_S35x64_S100x100x1_S100x100x64_2_0_n_n_0_2_164 (ix3 i j h) idx 0 = k.val := by
    unfold GatherDims.start
    refine (dif_pos (List.mem_singleton.2 rfl)).trans ?_
    rw [hsi, hk]
    have key : ∀ r : Fin 35, min (BitVec.ofNat 32 r.val).toInt.toNat (35 - 1) = r.val := by decide
    exact key k
  unfold Host.gather
  refine congrArg tab (funext fun a => Fin.ext ?_)
  match a with
  | ⟨0, _⟩ =>
    show GatherDims.start _ (ix3 i j h) idx 0 + GatherDims.batchCoord _ (ix3 i j h) 0 + GatherDims.offCoord _ (ix3 i j h) 0 = k.val
    rw [hst]
    rfl
  | ⟨1, _⟩ =>
    show GatherDims.start _ (ix3 i j h) idx 1 + GatherDims.batchCoord _ (ix3 i j h) 1 + GatherDims.offCoord _ (ix3 i j h) 1 = h.val
    have h1 : GatherDims.start gather_S35x64_S100x100x1_S100x100x64_2_0_n_n_0_2_164 (ix3 i j h) idx 1 = 0 := rfl
    have h2 : GatherDims.batchCoord gather_S35x64_S100x100x1_S100x100x64_2_0_n_n_0_2_164 (ix3 i j h) 1 = 0 := rfl
    have h3 : GatherDims.offCoord gather_S35x64_S100x100x1_S100x100x64_2_0_n_n_0_2_164 (ix3 i j h) 1 = h.val := rfl
    rw [h1, h2, h3]
    omega

/-! ## The result at an index -/

/-- The speaker or turn piece at an index: the table's row of the id there. -/
theorem taken_apply (x : IVec S32x100x100 32) (hx : IsIds x) (tab : FVec Ideal S2x32 .f32) (b : Fin 32) (i j : Fin 100)
    (h : Fin 32) : taken x tab (ix4 b i j h) = tab (ix2 (idOf x b i j) h) := by
  unfold taken
  pointwise
  rw [inside_apply x hx]
  exact (if_pos rfl).trans (gather_pair tab _ b i j h _ (rows_apply x hx b i j))

/-- The position piece at an index: the table's row of the relative position. -/
theorem posTaken_apply (tab : FVec Ideal S35x64 .f32) (i j : Fin 100) (h : Fin 64) :
    posTaken tab (ix3 i j h) = tab (ix2 ⟨relRow i.val j.val, relRow_lt _ _⟩ h) := by
  unfold posTaken
  pointwise
  rw [posInside_apply]
  exact (if_pos rfl).trans (gather_pos tab _ i j h _ (posRows_apply i j))

/-- The three pieces at an index: the piece that has its lane. -/
theorem joined_apply (u0 u1 : FVec Ideal S32x100x100x32 .f32) (u2 : FVec Ideal S100x100x64 .f32) (b : Fin 32) (i j : Fin 100)
    (h : Fin 128) :
    joined u0 u1 u2 (ix4 b i j h)
      = if h0 : h.val < 32 then u0 (ix4 b i j ⟨h.val, h0⟩)
        else if h1 : h.val < 64 then u1 (ix4 b i j ⟨h.val - 32, by omega⟩)
        else u2 (ix3 i j ⟨h.val - 64, by omega⟩) := by
  unfold joined
  pointwise
  by_cases h0 : h.val < 32
  · rw [dif_pos h0, dif_pos h0]
  · rw [dif_neg h0, dif_neg h0]
    by_cases h1 : h.val < 64
    · rw [dif_pos h1, dif_pos (by omega)]
    · rw [dif_neg h1, dif_neg (by omega)]
      exact congrArg (fun k => u2 (ix3 i j k)) (Fin.ext (by dsimp only; omega))

/-- The reference's result is the path embedding, when the ids are rows of their tables. -/
theorem joined_eq (s t : IVec S32x100x100 32) (hs : IsIds s) (ht : IsIds t) (sp tn : FVec Ideal S2x32 .f32)
    (ps : FVec Ideal S35x64 .f32) :
    joined (taken s sp) (taken t tn) (posTaken ps) = embed s t sp tn ps := by
  funext y
  idx_vars y
  rw [joined_apply]
  show _ = pathAt sp tn ps (idOf s y0 y1 y2) (idOf t y0 y1 y2) y1.val y2.val y3
  unfold pathAt
  simp only [taken_apply s hs, taken_apply t ht, posTaken_apply]

/-- The reference's result, at the device's arguments. -/
theorem res_embed (m : (ℓ : Loc nD τ sig) → Buf (Elt Ideal) ℓ) (c : Dev nD)
    (hs : IsIds (m ((c.tc : Thread nD τ).loc main_arg0))) (ht : IsIds (m ((c.tc : Thread nD τ).loc main_arg1))) :
    Value.res_main_v22 m c
      = embed (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) :=
  (res_eq m c).trans (joined_eq _ _ hs ht _ _ _)

end Cert.ReferenceIdeal.PathRef

end
-- ==== Proof.Pre.lean ====
/-
  The precondition read back: every speaker id and every turn id is 0 or 1.
-/
module

public import proofs.«01_k».proof.Pre_pre
public import proofs.«01_k».proof.Proof.Words
public import Idealize.ShloMosaic.Lib.Pointwise
public import Idealize.ShloMosaic.Lib.ReduceAll

@[expose] public section

set_option maxRecDepth 16384

noncomputable section

namespace Cert.PathPre

open Idealize.ShloMosaic Cert.PathWords

/-- A word between 0 and 1, compared as a signed number, is its own lowest bit. -/
theorem word_bit (a : BitVec 32) (h0 : IntOp.cmpi .sge a 0#32 = 1#1) (h1 : IntOp.cmpi .sle a 1#32 = 1#1) :
    a = BitVec.ofNat 32 (a.toNat % 2) := by
  have g0 : (0 : Int) ≤ a.toInt := by
    have := IntOp.cmpi_sge.1 h0
    simpa using this
  have g1 : a.toInt ≤ 1 := by
    have := IntOp.cmpi_sle.1 h1
    simpa using this
  have ha : a.toNat < 2 := by
    rw [BitVec.toInt_eq_toNat_cond] at g0 g1
    have := a.isLt
    split at g0 <;> omega
  apply BitVec.eq_of_toNat_eq
  rw [BitVec.toNat_ofNat]
  omega

variable [Cert.Pre_pre.Facts]

/-- The precondition's two conditions on an array of ids, both true over the whole array, make every id a row of a
    two-row table. -/
theorem isIds (x : IVec Cert.Pre_pre.S32x100x100 32)
    (e0 : Host.reduce IntOp.andi (cmpi .sge x (broadcastInDim Cert.Pre_pre.S32x100x100 ![] Cert.Pre_pre.Facts.bcast_S_S32x100x100
        (constantI Cert.Pre_pre.S_ 32 0#32))) (constantI Cert.Pre_pre.S_ 1 1#1) Cert.Pre_pre.Facts.reducesTo_S32x100x100_S_d0_1_2
        Cert.Pre_pre.Facts.h_S_ ix0 = 1#1)
    (e1 : Host.reduce IntOp.andi (cmpi .sle x (broadcastInDim Cert.Pre_pre.S32x100x100 ![] Cert.Pre_pre.Facts.bcast_S_S32x100x100
        (constantI Cert.Pre_pre.S_ 32 1#32))) (constantI Cert.Pre_pre.S_ 1 1#1) Cert.Pre_pre.Facts.reducesTo_S32x100x100_S_d0_1_2
        Cert.Pre_pre.Facts.h_S_ ix0 = 1#1) : IsIds x := by
  intro b i j
  have hone : Subsingleton Cert.Pre_pre.S_.Idx := ⟨fun a b => funext fun k => k.elim0⟩
  have h0 := Host.reduce_andi_all _ _ _ _ _ e0 (ix3 b i j)
  have h1 := Host.reduce_andi_all _ _ _ _ _ e1 (ix3 b i j)
  exact word_bit _ h0 h1

/-- The precondition makes every speaker id and every turn id a row of a two-row table. -/
theorem ids_of_pre (a0 a1 : IVec Cert.Pre_pre.S32x100x100 32) (a2 a3 : FVec Ideal Cert.Pre_pre.S2x32 .f32)
    (a4 : FVec Ideal Cert.Pre_pre.S35x64 .f32) (h : Cert.Pre_pre.fn (F := Ideal) a0 a1 a2 a3 a4 ix0 = 1#1) :
    IsIds a0 ∧ IsIds a1 := by
  obtain ⟨h3, h4⟩ := IntOp.andi_eq_one.1 h
  obtain ⟨h5, h6⟩ := IntOp.andi_eq_one.1 h3
  obtain ⟨h7, h8⟩ := IntOp.andi_eq_one.1 h5
  exact ⟨isIds a0 h7 h8, isIds a1 h6 h4⟩

end Cert.PathPre

end
-- ==== Proof.lean ====
/-
  The certificate: each program runs, keeps its arguments and ends with its semaphores at zero; and the kernel's result is
  the reference's, element by element, on ideal values, whenever every speaker id and turn id is 0 or 1.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_pre
public import proofs.«01_k».proof.Proof.KernelRun
public import proofs.«01_k».proof.Proof.RefRead
public import proofs.«01_k».proof.Proof.Pre
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference runs, keeps its arguments and ends with every semaphore at zero: it has no semaphore. -/
theorem reference_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- From equal arguments whose ids are all 0 or 1, the kernel and the reference end with equal results: the path embedding. -/
theorem results_agree : Cert.algebraic_KernelIdeal_ReferenceIdeal_pre_pre := by
  intro m g m' g' hpre heq
  have ids : ∀ c : Dev Cert.KernelIdeal.nD,
      Cert.PathWords.IsIds (Cert.KernelIdeal.PathRun.spk m c) ∧ Cert.PathWords.IsIds (Cert.KernelIdeal.PathRun.trn m c) :=
    fun c => Cert.PathPre.ids_of_pre _ _ _ _ _ (congrFun (hpre c) ix0)
  refine ⟨fun c => Cert.PathWords.embed (Cert.KernelIdeal.PathRun.spk m c) (Cert.KernelIdeal.PathRun.trn m c)
      (Cert.KernelIdeal.PathRun.spkT m c) (Cert.KernelIdeal.PathRun.trnT m c) (Cert.KernelIdeal.PathRun.posT m c),
    Cert.KernelIdeal.PathRun.run m g (fun c => (ids c).1) (fun c => (ids c).2), ?_⟩
  refine (θ_run Cert.ReferenceIdeal.defs _ _).mono (fun r h c => ⟨(h c).1.trans ?_, (h c).2⟩)
    (Cert.ReferenceIdeal.Value.run (F := Ideal) m' g')
  obtain ⟨e0, e1, e2, e3, e4⟩ := heq c
  have hs : Cert.PathWords.IsIds (m' ((c.tc : Thread Cert.ReferenceIdeal.nD Cert.ReferenceIdeal.τ).loc Cert.ReferenceIdeal.main_arg0)) := by
    rw [e0]
    exact (ids c).1
  have ht : Cert.PathWords.IsIds (m' ((c.tc : Thread Cert.ReferenceIdeal.nD Cert.ReferenceIdeal.τ).loc Cert.ReferenceIdeal.main_arg1)) := by
    rw [e1]
    exact (ids c).2
  refine (Cert.ReferenceIdeal.PathRef.res_embed m' c hs ht).trans ?_
  rw [e0, e1, e2, e3, e4]

/-- Everything the certificate claims. -/
theorem claim : Cert.Claim :=
  ⟨Cert.Kernel.Gen.facts, Cert.KernelIdeal.Gen.facts, Cert.ReferenceIdeal.Gen.facts, Cert.Pre_pre.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    results_agree⟩

end Cert.Proof

end
